-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x768x32x32 : Shape := ⟨4, ![8, 768, 32, 32]⟩
abbrev S50x256 : Shape := ⟨2, ![50, 256]⟩
abbrev S32x256 : Shape := ⟨2, ![32, 256]⟩
abbrev S1x32x256 : Shape := ⟨3, ![1, 32, 256]⟩
abbrev S2x32x256 : Shape := ⟨3, ![2, 32, 256]⟩
abbrev S16x256x1024 : Shape := ⟨3, ![16, 256, 1024]⟩
abbrev S1x256x1024 : Shape := ⟨3, ![1, 256, 1024]⟩
abbrev S32x1024 : Shape := ⟨2, ![32, 1024]⟩
abbrev S256x1024 : Shape := ⟨2, ![256, 1024]⟩
abbrev S8x512x32x32 : Shape := ⟨4, ![8, 512, 32, 32]⟩

abbrev nBuf : Space → Nat
  | .hbm => 10
  | .vmem => 4
  | .smem => 0
  | _ => 0

abbrev bufTy : (tb : Table) → Fin (tcTables nBuf tb) → BufTy
  | .hbm, ⟨0, _⟩ => ⟨S8x768x32x32, .f32⟩
  | .hbm, ⟨1, _⟩ => ⟨S50x256, .f32⟩
  | .hbm, ⟨2, _⟩ => ⟨S50x256, .f32⟩
  | .hbm, ⟨3, _⟩ => ⟨S32x256, .f32⟩
  | .hbm, ⟨4, _⟩ => ⟨S32x256, .f32⟩
  | .hbm, ⟨5, _⟩ => ⟨S1x32x256, .f32⟩
  | .hbm, ⟨6, _⟩ => ⟨S1x32x256, .f32⟩
  | .hbm, ⟨7, _⟩ => ⟨S2x32x256, .f32⟩
  | .hbm, ⟨8, _⟩ => ⟨S16x256x1024, .f32⟩
  | .hbm, ⟨9, _⟩ => ⟨S8x512x32x32, .f32⟩
  | .local _ .vmem, ⟨0, _⟩ => ⟨S1x32x256, .f32⟩
  | .local _ .vmem, ⟨1, _⟩ => ⟨S1x32x256, .f32⟩
  | .local _ .vmem, ⟨2, _⟩ => ⟨S1x256x1024, .f32⟩
  | .local _ .vmem, ⟨3, _⟩ => ⟨S1x256x1024, .f32⟩
  | _, _ => ⟨S8x768x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, c0_i32_3.toNat, c0_i32_4.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S8x768x32x32 : Shape := ⟨4, ![8, 768, 32, 32]⟩
abbrev S50x256 : Shape := ⟨2, ![50, 256]⟩
abbrev S32 : Shape := ⟨1, ![32]⟩
abbrev S_ : Shape := ⟨0, ![]⟩
abbrev S32x1 : Shape := ⟨2, ![32, 1]⟩
abbrev S1 : Shape := ⟨1, ![1]⟩
abbrev S1x1 : Shape := ⟨2, ![1, 1]⟩
abbrev S32x256 : Shape := ⟨2, ![32, 256]⟩
abbrev S1x32x256 : Shape := ⟨3, ![1, 32, 256]⟩
abbrev S32x32x256 : Shape := ⟨3, ![32, 32, 256]⟩
abbrev S32x1x256 : Shape := ⟨3, ![32, 1, 256]⟩
abbrev S32x32x512 : Shape := ⟨3, ![32, 32, 512]⟩
abbrev S512x32x32 : Shape := ⟨3, ![512, 32, 32]⟩
abbrev S1x512x32x32 : Shape := ⟨4, ![1, 512, 32, 32]⟩
abbrev S8x512x32x32 : Shape := ⟨4, ![8, 512, 32, 32]⟩

abbrev nBuf : Space → Nat
  | .hbm => 59
  | .vmem => 0
  | .smem => 0
  | _ => 0

abbrev bufTy : (tb : Table) → Fin (tcTables nBuf tb) → BufTy
  | .hbm, ⟨0, _⟩ => ⟨S8x768x32x32, .f32⟩
  | .hbm, ⟨1, _⟩ => ⟨S50x256, .f32⟩
  | .hbm, ⟨2, _⟩ => ⟨S50x256, .f32⟩
  | .hbm, ⟨3, _⟩ => ⟨S32, .i32⟩
  | .hbm, ⟨4, _⟩ => ⟨S32, .i32⟩
  | .hbm, ⟨5, _⟩ => ⟨S_, .i32⟩
  | .hbm, ⟨6, _⟩ => ⟨S32, .i32⟩
  | .hbm, ⟨7, _⟩ => ⟨S32, .i1⟩
  | .hbm, ⟨8, _⟩ => ⟨S_, .i32⟩
  | .hbm, ⟨9, _⟩ => ⟨S32, .i32⟩
  | .hbm, ⟨10, _⟩ => ⟨S32, .i32⟩
  | .hbm, ⟨11, _⟩ => ⟨S32, .i32⟩
  | .hbm, ⟨12, _⟩ => ⟨S32x1, .i32⟩
  | .hbm, ⟨13, _⟩ => ⟨S1, .i32⟩
  | .hbm, ⟨14, _⟩ => ⟨S_, .i32⟩
  | .hbm, ⟨15, _⟩ => ⟨S32x1, .i32⟩
  | .hbm, ⟨16, _⟩ => ⟨S32x1, .i1⟩
  | .hbm, ⟨17, _⟩ => ⟨S1x1, .i32⟩
  | .hbm, ⟨18, _⟩ => ⟨S32x1, .i32⟩
  | .hbm, ⟨19, _⟩ => ⟨S32x1, .i1⟩
  | .hbm, ⟨20, _⟩ => ⟨S32x1, .i1⟩
  | .hbm, ⟨21, _⟩ => ⟨S_, .i1⟩
  | .hbm, ⟨22, _⟩ => ⟨S32, .i1⟩
  | .hbm, ⟨23, _⟩ => ⟨S32x256, .f32⟩
  | .hbm, ⟨24, _⟩ => ⟨S32x256, .i1⟩
  | .hbm, ⟨25, _⟩ => ⟨S_, .f32⟩
  | .hbm, ⟨26, _⟩ => ⟨S32x256, .f32⟩
  | .hbm, ⟨27, _⟩ => ⟨S32x256, .f32⟩
  | .hbm, ⟨28, _⟩ => ⟨S_, .i32⟩
  | .hbm, ⟨29, _⟩ => ⟨S32, .i32⟩
  | .hbm, ⟨30, _⟩ => ⟨S32, .i1⟩
  | .hbm, ⟨31, _⟩ => ⟨S_, .i32⟩
  | .hbm, ⟨32, _⟩ => ⟨S32, .i32⟩
  | .hbm, ⟨33, _⟩ => ⟨S32, .i32⟩
  | .hbm, ⟨34, _⟩ => ⟨S32, .i32⟩
  | .hbm, ⟨35, _⟩ => ⟨S32x1, .i32⟩
  | .hbm, ⟨36, _⟩ => ⟨S1, .i32⟩
  | .hbm, ⟨37, _⟩ => ⟨S_, .i32⟩
  | .hbm, ⟨38, _⟩ => ⟨S32x1, .i32⟩
  | .hbm, ⟨39, _⟩ => ⟨S32x1, .i1⟩
  | .hbm, ⟨40, _⟩ => ⟨S1x1, .i32⟩
  | .hbm, ⟨41, _⟩ => ⟨S32x1, .i32⟩
  | .hbm, ⟨42, _⟩ => ⟨S32x1, .i1⟩
  | .hbm, ⟨43, _⟩ => ⟨S32x1, .i1⟩
  | .hbm, ⟨44, _⟩ => ⟨S_, .i1⟩
  | .hbm, ⟨45, _⟩ => ⟨S32, .i1⟩
  | .hbm, ⟨46, _⟩ => ⟨S32x256, .f32⟩
  | .hbm, ⟨47, _⟩ => ⟨S32x256, .i1⟩
  | .hbm, ⟨48, _⟩ => ⟨S_, .f32⟩
  | .hbm, ⟨49, _⟩ => ⟨S32x256, .f32⟩
  | .hbm, ⟨50, _⟩ => ⟨S32x256, .f32⟩
  | .hbm, ⟨51, _⟩ => ⟨S1x32x256, .f32⟩
  | .hbm, ⟨52, _⟩ => ⟨S32x32x256, .f32⟩
  | .hbm, ⟨53, _⟩ => ⟨S32x1x256, .f32⟩
  | .hbm, ⟨54, _⟩ => ⟨S32x32x256, .f32⟩
  | .hbm, ⟨55, _⟩ => ⟨S32x32x512, .f32⟩
  | .hbm, ⟨56, _⟩ => ⟨S512x32x32, .f32⟩
  | .hbm, ⟨57, _⟩ => ⟨S1x512x32x32, .f32⟩
  | .hbm, ⟨58, _⟩ => ⟨S8x512x32x32, .f32⟩
  | _, _ => ⟨S8x768x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩

abbrev nD : Nat := 1
abbrev τ : Topo := Topo.v7x

variable {F : FTy → Type} [FloatOps F]
-- ==== Proof.Values.Block.lean ====
/-
  What one grid step of the kernel writes. The step multiplies a `[32, 256]` table by a 0/1 matrix that holds a single
  one in each column, so the product picks one table row per output position.
-/
module

public import proofs.«01_k».proof.Proof.Gen.KernelIdeal.Skeleton
public import Idealize.ShloMosaic.Lib.Pointwise
public import Idealize.ShloMosaic.Lib.Routing.Words

@[expose] public section

set_option maxRecDepth 16384

noncomputable section

namespace Cert.KernelIdeal.Values

open Cert.KernelIdeal Cert.KernelIdeal.Gen Idealize.ShloMosaic

/-- The table row that position `q` of the flattened 32 × 32 map selects on grid step `n`: the column of the map on even
    steps, its row on odd steps. -/
def tableRow (n : Nat) (q : Fin 1024) : Fin 32 :=
  ⟨if n % 2 = 0 then q.val % 32 else q.val / 32, by split <;> omega⟩

/-- The words of two naturals below `2 ^ 32` are equal only when the naturals are. -/
theorem eq_of_word_eq {a b : Nat} (ha : a < 2 ^ 32) (hb : b < 2 ^ 32) (h : BitVec.ofNat 32 a = BitVec.ofNat 32 b) :
    a = b := by
  have e := congrArg BitVec.toNat h
  rwa [BitVec.toNat_ofNat, BitVec.toNat_ofNat, Nat.mod_eq_of_lt ha, Nat.mod_eq_of_lt hb] at e

/-- The word the body compares the row number with is the word of `tableRow`. -/
theorem row_word (n : Nat) (hn : n < 16) (q : Fin 1024) :
    Scalar.select (Scalar.cmpi CmpIPredicate.eq (Scalar.remsi (BitVec.ofNat 32 n) 2#32) 0#32)
        (IntOp.remsi ArithUnit.vector (BitVec.ofNat 32 q.val) 32#32)
        (IntOp.divsi ArithUnit.vector (BitVec.ofNat 32 q.val) 32#32)
      = BitVec.ofNat 32 (tableRow n q).val := by
  have hq := q.isLt
  rw [show Scalar.remsi (BitVec.ofNat 32 n) 2#32 = BitVec.ofNat 32 (n % 2) from
      Routing.remsi_word _ (by omega) (by norm_num) (by norm_num),
    show IntOp.remsi ArithUnit.vector (BitVec.ofNat 32 q.val) 32#32 = BitVec.ofNat 32 (q.val % 32) from
      Routing.remsi_word _ (by omega) (by norm_num) (by norm_num),
    show IntOp.divsi ArithUnit.vector (BitVec.ofNat 32 q.val) 32#32 = BitVec.ofNat 32 (q.val / 32) from
      Routing.divsi_word _ (by omega) (by norm_num) (by norm_num)]
  show _ = BitVec.ofNat 32 (if n % 2 = 0 then q.val % 32 else q.val / 32)
  rcases Nat.mod_two_eq_zero_or_one n with h | h <;> rw [h] <;> rfl

/-- The entry of the 0/1 matrix: one where the two row numbers agree, zero elsewhere. -/
theorem indicator_value (a b : Fin 32) :
    (FloatOps.sitofp FTy.f32 (BitVec.setWidth 32
        (IntOp.cmpi CmpIPredicate.eq (BitVec.ofNat 32 a.val) (BitVec.ofNat 32 b.val))) : Ideal FTy.f32)
      = if b = a then (1 : EReal) else 0 := by
  have ha := a.isLt
  have hb := b.isLt
  by_cases h : b = a
  · subst h
    rw [if_pos rfl, show IntOp.cmpi CmpIPredicate.eq (BitVec.ofNat 32 b.val) (BitVec.ofNat 32 b.val) = 1#1 from
      congrArg BitVec.ofBool (beq_self_eq_true _)]
    exact (congrArg (fun z : ℤ => ((z : ℝ) : EReal)) (by decide : (BitVec.setWidth 32 1#1).toInt = 1)).trans (by norm_num)
  · have hne : ¬ BitVec.ofNat 32 a.val = BitVec.ofNat 32 b.val := fun e =>
      h (Fin.ext (eq_of_word_eq (by omega) (by omega) e).symm)
    rw [if_neg h, show IntOp.cmpi CmpIPredicate.eq (BitVec.ofNat 32 a.val) (BitVec.ofNat 32 b.val) = 0#1 from
      congrArg BitVec.ofBool (beq_eq_false_iff_ne.2 hne)]
    exact (congrArg (fun z : ℤ => ((z : ℝ) : EReal)) (by decide : (BitVec.setWidth 32 0#1).toInt = 0)).trans (by norm_num)

/-- THE BLOCK: entry `(0, d, q)` of what grid step `i` writes is the table's entry in row `tableRow (i 0) q` and
    column `d`. -/
theorem block_apply (i : grid0.Coords) (x : Vec Ideal S1x32x256 .f32) (d : Fin 256) (q : Fin 1024) :
    k0_pay1 (F := Ideal) i x (ix3 0 d q) = x (ix3 0 (tableRow (i 0).val q) d) := by
  pointwise [k0_pay1]
  simp only [row_word (i 0).val (i 0).isLt q, indicator_value]
  refine (Finset.sum_eq_single (tableRow (i 0).val q) (fun b _ hb => ?_) fun h => absurd (Finset.mem_univ _) h).trans ?_
  · rw [if_neg hb]; exact mul_zero _
  · rw [if_pos rfl]; exact mul_one _

end Cert.KernelIdeal.Values

end
-- ==== Proof.Values.Array.lean ====
/-
  What the kernel's output array holds after the last grid step, and what the program returns of it.
-/
module

public import proofs.«01_k».proof.Proof.Gen.KernelIdeal.Frame
public import proofs.«01_k».proof.Proof.Values.Block
public import Idealize.ShloMosaic.Lib.Pipeline.ValueKit

@[expose] public section

set_option maxRecDepth 16384

noncomputable section

namespace Cert.KernelIdeal.Values

open Cert.KernelIdeal Cert.KernelIdeal.Gen Idealize.ShloMosaic Idealize.ShloMosaic.TcCoe Idealize.SL.Sem

variable (m : (ℓ : Loc nD τ sig) → Buf (Elt Ideal) ℓ)

/-- The two tables the kernel reads, one on top of the other: the first 32 rows of the column table, then the first 32
    rows of the row table. -/
abbrev tables (row col : FVec Ideal S50x256 .f32) : FVec Ideal S2x32x256 .f32 :=
  concatenate S2x32x256 0
    [⟨S1x32x256, broadcastInDim S1x32x256 ![1, 2] bcast_S32x256_S1x32x256_1_2
        (extractStridedSlice S32x256 ![0, 0] col slices_S50x256_S32x256_0_0)⟩,
      ⟨S1x32x256, broadcastInDim S1x32x256 ![1, 2] bcast_S32x256_S1x32x256_1_2
        (extractStridedSlice S32x256 ![0, 0] row slices_S50x256_S32x256_0_0)⟩]
    concatenates_S1x32x256_S1x32x256_S2x32x256_d0

/-- Table 0 holds the column table's rows and table 1 the row table's: entry `(k, r, d)` is entry `(r, d)` of the one or the
    other. -/
theorem tables_apply (row col : FVec Ideal S50x256 .f32) (k : Fin 2) (r : Fin 32) (d : Fin 256) :
    tables row col (ix3 k r d) = if k.val = 0 then col (ix2 ⟨r.val, by omega⟩ d) else row (ix2 ⟨r.val, by omega⟩ d) := by
  pointwise [tables]
  by_cases h : k.val = 0
  · rw [if_pos h, dif_pos (by omega)]
  · rw [if_neg h, dif_neg (by omega)]

/-- The region finds the two tables in the array it reads. -/
theorem entry_tables (c : Dev nD) :
    V m c main_v4 = tables (m ((c : Thread nD τ).loc main_arg1)) (m ((c : Thread nD τ).loc main_arg2)) := by
  unfold V V0
  simp only [hostOps0, List.flatten_cons, List.flatten_nil, List.append_nil]
  after_results_simp
  rfl

/-- Grid step `t` reads table `t % 2` and writes slab `t`. -/
theorem steps : ∀ t : Fin cfg0.N, win0_0.index t = ![t.val % 2, 0, 0] ∧ win0_1.index t = ![t.val, 0, 0]
    ∧ (grid0.coords t 0).val = t.val := (by decide +kernel : ∀ t : Fin grid0.N, _)

/-- The output array: slab `j` holds at `(d, q)` the entry `(tableRow j q, d)` of table `j % 2`. -/
def slabs (T : FVec Ideal S2x32x256 .f32) : FVec Ideal S16x256x1024 .f32 := fun y =>
  T (ix3 ⟨(y 0).val % 2, Nat.mod_lt _ (by norm_num)⟩ (tableRow (y 0).val ⟨(y 2).val, (y 2).isLt⟩) ⟨(y 1).val, (y 1).isLt⟩)

/-- THE ARRAY: after the last grid step the output array is `slabs` of the tables read. -/
theorem array_eq (c : Dev nD) : (dats m 0 c).arrAt 1 cfg0.N = slabs (V m c main_v4) := by
  refine (dats m 0 c).arrAt_eq_of_covers 1 (slabs (V m c main_v4)) (by decide +kernel) fun t hf y => ?_
  blk_simp
  rw [after0_1]
  frame_out
  obtain ⟨d, q, rfl⟩ : ∃ (d : Fin 256) (q : Fin 1024), y = (ix3 (0 : Fin 1) d q : S1x256x1024.Idx) := by
    refine ⟨⟨(y 1).val, (y 1).isLt⟩, ⟨(y 2).val, (y 2).isLt⟩, funext fun a => Fin.ext ?_⟩
    fin_cases a
    · exact Nat.lt_one_iff.1 (y 0).isLt
    · rfl
    · rfl
  refine (block_apply (grid0.coords t) (iblk m c 0 t) d q).trans ?_
  rw [(steps t).2.2]
  blk_simp [slabs, iblk, steps t]
  blk_ext [steps t]
  rfl

/-- THE RESULT: what the program returns is the output array in the result's shape. -/
theorem result_eq (c : Dev nD) :
    Pipeline.afterTail₀ cfgs (dats m) 0 (V0 m) [hostOps1] c main_v6
      = shapeCast S8x512x32x32 (slabs (V m c main_v4)) shapeCasts_S16x256x1024_S8x512x32x32 := by
  rw [← array_eq]
  unfold Pipeline.afterTail₀
  simp only [hostOps1, List.flatten_cons, List.flatten_nil, List.append_nil]
  after_results
  exact congrArg (fun z => shapeCast S8x512x32x32 z shapeCasts_S16x256x1024_S8x512x32x32)
    (Pipeline.withArrays_arr spec0 (by decide) c (V0 m c) (fun w => (dats m 0 c).arrAt w cfg0.N) 1)

/-- The returned array at an entry: channel `ch` of position `(y, x)` is the column table's entry `(x, ch)` for the first
    256 channels and the row table's entry `(y, ch - 256)` for the others. -/
theorem returned_apply (row col : FVec Ideal S50x256 .f32) (b : Fin 8) (ch : Fin 512) (y x : Fin 32) :
    shapeCast S8x512x32x32 (slabs (tables row col)) shapeCasts_S16x256x1024_S8x512x32x32 (ix4 b ch y x)
      = if h : ch.val < 256 then col (ix2 ⟨x.val, by omega⟩ ⟨ch.val, h⟩)
        else row (ix2 ⟨y.val, by omega⟩ ⟨ch.val - 256, by omega⟩) := by
  have hb := b.isLt
  have hch := ch.isLt
  have hy := y.isLt
  have hx := x.isLt
  pointwise
  refine (tables_apply row col ⟨(b.val * 2 + ch.val / 256) % 2, by omega⟩
    (tableRow (b.val * 2 + ch.val / 256) ⟨y.val * 32 + x.val, by omega⟩) ⟨ch.val % 256, by omega⟩).trans ?_
  by_cases h : ch.val < 256
  · have hp : (b.val * 2 + ch.val / 256) % 2 = 0 := by omega
    rw [if_pos hp, dif_pos h]
    blk_ext [tableRow, hp]
    rw [if_pos trivial]; omega
  · have hp : (b.val * 2 + ch.val / 256) % 2 = 1 := by omega
    rw [if_neg fun e => absurd (hp.symm.trans e) one_ne_zero, dif_neg h]
    blk_ext [tableRow, hp]
    rw [if_neg one_ne_zero]; omega

end Cert.KernelIdeal.Values

end
-- ==== Proof.Values.Reference.lean ====
/-
  What the reference computes: the two embedding tables looked up at the row numbers 0 … 31, laid out along the map's
  columns and rows, joined along the channels and repeated over the batch.
-/
module

public import proofs.«01_k».proof.Proof.Gen.ReferenceIdeal.Run
public import Idealize.ShloMosaic.Lib.Pointwise
public import Idealize.ShloMosaic.Lib.Routing.Words

@[expose] public section

set_option maxRecDepth 16384

noncomputable section

namespace Cert.ReferenceIdeal.Values

open Cert.ReferenceIdeal Cert.ReferenceIdeal.Gen Idealize.ShloMosaic

/-- The row numbers the reference looks up, one per line: the numbers 0 … 31, a negative one counted from the end of the
    table (none is). -/
abbrev rowNumbers : IVec S32x1 32 :=
  broadcastInDim S32x1 ![0] bcast_S32_S32x1_0
    (select (cmpi .slt (iotaInDim S32 32 0) (broadcastInDim S32 ![] bcast_S_S32 (constantI S_ 32 0#32)))
      (addi (iotaInDim S32 32 0) (broadcastInDim S32 ![] bcast_S_S32 (constantI S_ 32 50#32))) (iotaInDim S32 32 0))

/-- The flag of each line: whether its row number lies inside the table, 0 … 49. -/
abbrev rowValid : IVec S32 1 :=
  Host.reduce IntOp.andi
    (andi (cmpi .sge rowNumbers (broadcastInDim S32x1 ![] bcast_S_S32x1 (constantI S_ 32 0#32)))
      (cmpi .sle rowNumbers (broadcastInDim S32x1 ![0, 1] bcast_S1x1_S32x1_0_1
        (broadcastInDim S1x1 ![1] bcast_S1_S1x1_1 (constantI S1 32 49#32)))))
    (constantI S_ 1 1#1) reducesTo_S32x1_S32_d1 h_S_

/-- A table looked up at `rowNumbers`, the quiet NaN standing where a row number is outside the table. -/
abbrev lookup (e : FVec Ideal S50x256 .f32) : FVec Ideal S32x256 .f32 :=
  select (broadcastInDim S32x256 ![0] bcast_S32_S32x256_0 rowValid)
    (Host.gather gather_S50x256_S32x1_S32x256_1_0_n_n_0_1_1256 e rowNumbers)
    (broadcastInDim S32x256 ![] bcast_S_S32x256 (constant S_ .f32 0x7FC00000#32))

/-- Line `r` of the row numbers holds `r`. -/
theorem rowNumbers_apply (r : Fin 32) : rowNumbers (ix2 r 0) = BitVec.ofNat 32 r.val := by
  revert r; decide +kernel

/-- Every row number lies inside the table. -/
theorem rowValid_apply (r : Fin 32) : rowValid (ix1 r) = 1#1 := by
  revert r; decide +kernel

/-- The lookup returns the table's first 32 rows: entry `(r, d)` is the table's entry `(r, d)`. -/
theorem lookup_apply (e : FVec Ideal S50x256 .f32) (r : Fin 32) (d : Fin 256) :
    lookup e (ix2 r d) = e (ix2 ⟨r.val, by omega⟩ d) := by
  have hsel : ∀ (v : IVec S32 1) (g z : FVec Ideal S32x256 .f32), v (ix1 r) = 1#1 →
      select (broadcastInDim S32x256 ![0] bcast_S32_S32x256_0 v) g z (ix2 r d) = g (ix2 r d) := by
    intro v g z hv
    pointwise
    rw [hv]
    rfl
  rw [lookup, hsel _ _ _ (rowValid_apply r)]
  exact Routing.gather_row (nb := 50) (B := 256) (n := 32) gather_S50x256_S32x1_S32x256_1_0_n_n_0_1_1256 rfl rfl rfl rfl rfl
    e rowNumbers r d ⟨r.val, by omega⟩ (rowNumbers_apply r) (by norm_num)

/-- The whole of the reference's result, from the two tables it looks up. -/
abbrev result (row col : FVec Ideal S50x256 .f32) : FVec Ideal S8x512x32x32 .f32 :=
  broadcastInDim S8x512x32x32 ![0, 1, 2, 3] bcast_S1x512x32x32_S8x512x32x32_0_1_2_3
    (broadcastInDim S1x512x32x32 ![1, 2, 3] bcast_S512x32x32_S1x512x32x32_1_2_3
      (transpose S512x32x32 [2, 0, 1]
        (concatenate S32x32x512 2
          [⟨S32x32x256, broadcastInDim S32x32x256 ![0, 1, 2] bcast_S1x32x256_S32x32x256_0_1_2
              (broadcastInDim S1x32x256 ![1, 2] bcast_S32x256_S1x32x256_1_2 (lookup col))⟩,
            ⟨S32x32x256, broadcastInDim S32x32x256 ![0, 1, 2] bcast_S32x1x256_S32x32x256_0_1_2
              (broadcastInDim S32x1x256 ![0, 2] bcast_S32x256_S32x1x256_0_2 (lookup row))⟩]
          concatenates_S32x32x256_S32x32x256_S32x32x512_d2)
        transposes_S32x32x512_S512x32x32_2_0_1))

/-- THE REFERENCE AT AN ENTRY: channel `ch` of position `(y, x)` is the column table's entry `(x, ch)` for the first 256
    channels and the row table's entry `(y, ch - 256)` for the others, whatever the batch index. -/
theorem result_apply (row col : FVec Ideal S50x256 .f32) (b : Fin 8) (ch : Fin 512) (y x : Fin 32) :
    result row col (ix4 b ch y x)
      = if h : ch.val < 256 then col (ix2 ⟨x.val, by omega⟩ ⟨ch.val, h⟩)
        else row (ix2 ⟨y.val, by omega⟩ ⟨ch.val - 256, by omega⟩) := by
  simp only [← lookup_apply]
  unfold result
  generalize lookup row = u, lookup col = v
  pointwise

end Cert.ReferenceIdeal.Values

end
-- ==== Proof.Values.Equation.lean ====
/-
  The equation between the two programs, and the run of each with its result named: the kernel returns the reference's
  array, computed from the same two tables.
-/
module

public import proofs.«01_k».proof.Proof.Values.Array
public import proofs.«01_k».proof.Proof.Values.Reference

@[expose] public section

set_option maxRecDepth 16384

noncomputable section

namespace Cert.Proof

open Idealize.ShloMosaic Idealize.ShloMosaic.TcCoe Idealize.SL.Sem

/-- THE EQUATION: on the same row and column tables the kernel's returned array is the reference's. -/
theorem returned_eq_reference (row col : FVec Ideal Cert.ReferenceIdeal.S50x256 .f32) :
    shapeCast Cert.KernelIdeal.S8x512x32x32 (Cert.KernelIdeal.Values.slabs (Cert.KernelIdeal.Values.tables row col))
        Cert.KernelIdeal.Gen.shapeCasts_S16x256x1024_S8x512x32x32
      = Cert.ReferenceIdeal.Values.result row col := by
  funext i
  rw [eq_ix4 i]
  exact (Cert.KernelIdeal.Values.returned_apply row col (i 0) (i 1) (i 2) (i 3)).trans
    (Cert.ReferenceIdeal.Values.result_apply row col (i 0) (i 1) (i 2) (i 3)).symm

/-- The kernel's run: it terminates without fault, returns the reference's array of its own two tables and leaves its
    arguments as they were. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ fun r => ∀ c : Dev Cert.KernelIdeal.nD,
        r.2.mem (c.tc.loc Cert.KernelIdeal.main_v6)
            = Cert.ReferenceIdeal.Values.result (m (c.tc.loc Cert.KernelIdeal.main_arg1)) (m (c.tc.loc Cert.KernelIdeal.main_arg2))
          ∧ r.2.mem (c.tc.loc Cert.KernelIdeal.main_arg0) = m (c.tc.loc Cert.KernelIdeal.main_arg0)
          ∧ r.2.mem (c.tc.loc Cert.KernelIdeal.main_arg1) = m (c.tc.loc Cert.KernelIdeal.main_arg1)
          ∧ r.2.mem (c.tc.loc Cert.KernelIdeal.main_arg2) = m (c.tc.loc Cert.KernelIdeal.main_arg2) := by
  refine (θ_run Cert.KernelIdeal.defs _ _).mono (fun r h c => ⟨?_, ?_, ?_, ?_⟩) (Cert.KernelIdeal.Gen.run_main (F := Ideal) m g)
  · refine ((h c).2 Cert.KernelIdeal.main_v6 (Pipeline.mem_restRefs_of Cert.KernelIdeal.main_v6 (by decide) (by decide))).trans ?_
    refine (Cert.KernelIdeal.Values.result_eq m c).trans ?_
    rw [Cert.KernelIdeal.Values.entry_tables]
    exact returned_eq_reference _ _
  · exact ((h c).2 Cert.KernelIdeal.main_arg0 (Pipeline.mem_restRefs_of Cert.KernelIdeal.main_arg0 (by decide) (by decide))).trans
      (Cert.KernelIdeal.Gen.W_main_arg0 m _ c)
  · exact ((h c).2 Cert.KernelIdeal.main_arg1 (Pipeline.mem_restRefs_of Cert.KernelIdeal.main_arg1 (by decide) (by decide))).trans
      (Cert.KernelIdeal.Gen.W_main_arg1 m _ c)
  · exact ((h c).2 Cert.KernelIdeal.main_arg2 (Pipeline.mem_restRefs_of Cert.KernelIdeal.main_arg2 (by decide) (by decide))).trans
      (Cert.KernelIdeal.Gen.W_main_arg2 m _ c)

/-- The reference's run: it terminates without fault, returns `result` of its two tables and leaves its arguments as they
    were. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => ∀ c : Dev Cert.ReferenceIdeal.nD,
        r.2.mem (c.tc.loc Cert.ReferenceIdeal.main_v11)
            = Cert.ReferenceIdeal.Values.result (m (c.tc.loc Cert.ReferenceIdeal.main_arg1))
                (m (c.tc.loc Cert.ReferenceIdeal.main_arg2))
          ∧ r.2.mem (c.tc.loc Cert.ReferenceIdeal.main_arg0) = m (c.tc.loc Cert.ReferenceIdeal.main_arg0)
          ∧ r.2.mem (c.tc.loc Cert.ReferenceIdeal.main_arg1) = m (c.tc.loc Cert.ReferenceIdeal.main_arg1)
          ∧ r.2.mem (c.tc.loc Cert.ReferenceIdeal.main_arg2) = m (c.tc.loc Cert.ReferenceIdeal.main_arg2) :=
  Cert.ReferenceIdeal.Value.run (F := Ideal) m g

end Cert.Proof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Values.Equation
public import Idealize.ShloMosaic.Lib.Quiescent

@[expose] public section

noncomputable section

namespace Cert.Proof

open Idealize.ShloMosaic Idealize.SL.Sem

/-- The reference runs to the end without fault, keeps its arguments and leaves every semaphore counter at zero. -/
theorem reference_frame : Cert.quiescent_ReferenceIdeal := fun m g _ =>
  (θ_run Cert.ReferenceIdeal.defs _ _).mono
    (fun r h => ⟨fun c => (h c).2, sem_eq_zero_of_no_sems (by decide) r.2⟩) (reference_run m g)

/-- From memories that agree on the arguments the kernel and the reference return equal arrays. -/
theorem results_equal : Cert.algebraic_KernelIdeal_ReferenceIdeal := by
  intro m g m' g' _ hagree
  refine ⟨fun c => Cert.ReferenceIdeal.Values.result (m (c.tc.loc Cert.KernelIdeal.main_arg1))
    (m (c.tc.loc Cert.KernelIdeal.main_arg2)), kernel_run m g, ?_⟩
  refine (θ_run Cert.ReferenceIdeal.defs _ _).mono (fun r h c => ⟨(h c).1.trans ?_, (h c).2⟩) (reference_run m' g')
  exact congrArg₂ Cert.ReferenceIdeal.Values.result (hagree c).2.1 (hagree c).2.2

/-- Everything the certificate claims. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial,
    results_equal⟩

end Cert.Proof

end
